-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4x1024 : Shape := ⟨3, ![2048, 4, 1024]⟩
abbrev S2048x1024 : Shape := ⟨2, ![2048, 1024]⟩
abbrev S4x128x4x1024 : Shape := ⟨4, ![4, 128, 4, 1024]⟩
abbrev S4x128x1024 : Shape := ⟨3, ![4, 128, 1024]⟩
abbrev S4 : Shape := ⟨1, ![4]⟩
abbrev S1 : Shape := ⟨1, ![1]⟩
abbrev S_ : Shape := ⟨0, ![]⟩
abbrev S1x128x4x1024 : Shape := ⟨4, ![1, 128, 4, 1024]⟩
abbrev S128x4x1024 : Shape := ⟨3, ![128, 4, 1024]⟩
abbrev S1x128x1024 : Shape := ⟨3, ![1, 128, 1024]⟩
abbrev S128x1024 : Shape := ⟨2, ![128, 1024]⟩
abbrev S128x1x1024 : Shape := ⟨3, ![128, 1, 1024]⟩

abbrev nBuf : Space → Nat
  | .hbm => 3
  | .vmem => 2
  | .smem => 0
  | _ => 0

abbrev bufTy : (tb : Table) → Fin (tcTables nBuf tb) → BufTy
  | .hbm, ⟨0, _⟩ => ⟨S2048x4x1024, .f32⟩
  | .hbm, ⟨1, _⟩ => ⟨S2048x1024, .f32⟩
  | .hbm, ⟨2, _⟩ => ⟨S2048x4x1024, .f32⟩
  | .local _ .vmem, ⟨0, _⟩ => ⟨S4x128x4x1024, .f32⟩
  | .local _ .vmem, ⟨1, _⟩ => ⟨S4x128x1024, .f32⟩
  | _, _ => ⟨S2048x4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none
-- ==== ReferenceIdeal.lean ====
abbrev S2048x4x1024 : Shape := ⟨3, ![2048, 4, 1024]⟩
abbrev S2048x1024 : Shape := ⟨2, ![2048, 1024]⟩
abbrev S2048 : Shape := ⟨1, ![2048]⟩
abbrev S2048x1 : Shape := ⟨2, ![2048, 1]⟩
abbrev S_ : Shape := ⟨0, ![]⟩
abbrev S2048x1x1 : Shape := ⟨3, ![2048, 1, 1]⟩
abbrev S1 : Shape := ⟨1, ![1]⟩
abbrev S1x1x1 : Shape := ⟨3, ![1, 1, 1]⟩
abbrev S2048x1x1024 : Shape := ⟨3, ![2048, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S2048x1024, .f32⟩
  | .hbm, ⟨2, _⟩ => ⟨S2048, .i32⟩
  | .hbm, ⟨3, _⟩ => ⟨S2048x1, .i32⟩
  | .hbm, ⟨4, _⟩ => ⟨S_, .i32⟩
  | .hbm, ⟨5, _⟩ => ⟨S2048x1, .i32⟩
  | .hbm, ⟨6, _⟩ => ⟨S2048x1, .i1⟩
  | .hbm, ⟨7, _⟩ => ⟨S_, .i32⟩
  | .hbm, ⟨8, _⟩ => ⟨S2048x1, .i32⟩
  | .hbm, ⟨9, _⟩ => ⟨S2048x1, .i32⟩
  | .hbm, ⟨10, _⟩ => ⟨S2048x1, .i32⟩
  | .hbm, ⟨11, _⟩ => ⟨S2048x1x1, .i32⟩
  | .hbm, ⟨12, _⟩ => ⟨S1, .i32⟩
  | .hbm, ⟨13, _⟩ => ⟨S_, .i32⟩
  | .hbm, ⟨14, _⟩ => ⟨S2048x1x1, .i32⟩
  | .hbm, ⟨15, _⟩ => ⟨S2048x1x1, .i1⟩
  | .hbm, ⟨16, _⟩ => ⟨S1x1x1, .i32⟩
  | .hbm, ⟨17, _⟩ => ⟨S2048x1x1, .i32⟩
  | .hbm, ⟨18, _⟩ => ⟨S2048x1x1, .i1⟩
  | .hbm, ⟨19, _⟩ => ⟨S2048x1x1, .i1⟩
  | .hbm, ⟨20, _⟩ => ⟨S_, .i1⟩
  | .hbm, ⟨21, _⟩ => ⟨S2048x1, .i1⟩
  | .hbm, ⟨22, _⟩ => ⟨S2048x1x1024, .f32⟩
  | .hbm, ⟨23, _⟩ => ⟨S2048x1x1024, .i1⟩
  | .hbm, ⟨24, _⟩ => ⟨S_, .f32⟩
  | .hbm, ⟨25, _⟩ => ⟨S2048x1x1024, .f32⟩
  | .hbm, ⟨26, _⟩ => ⟨S2048x1x1024, .f32⟩
  | .hbm, ⟨27, _⟩ => ⟨S2048x4x1024, .f32⟩
  | .hbm, ⟨28, _⟩ => ⟨S2048x4x1024, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Ring.Pieces.lean ====
/-
  The ring's buffers, cut into the parts its transfers move: the two VMEM buffers into their four slots, the result
  into its sixteen chunks of 128 rows. A buffer held whole is its parts, and the parts join back to the whole.
-/
module

public import proofs.«01_k».proof.Proof.Gen.Kernel.Launch
public import Idealize.ShloMosaic.Lib.Pipeline.FrameBody
public import Idealize.ShloMosaic.Lib.Ring
public import Idealize.ShloMosaic.Lib.Tactic

@[expose] public section

noncomputable section

namespace Cert.Kernel.Ring

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Equal assertions entail each other. -/
theorem of_eq {P Q : sProp 𝕄} (h : P = Q) : P ⊢ Q := h ▸ .rfl

/-! ## The five buffers -/

/-- `x` in HBM. -/
abbrev xHbm : Memref sig .tc .hbm S2048x4x1024 .f32 := Memref.whole main_arg0
/-- The embedding table in HBM. -/
abbrev eHbm : Memref sig .tc .hbm S2048x1024 .f32 := Memref.whole main_arg1
/-- The result in HBM. -/
abbrev oHbm : Memref sig .tc .hbm S2048x4x1024 .f32 := Memref.whole main_v0
/-- The ring of four slots for chunks of `x`, in VMEM. -/
abbrev xRing : Memref sig .tc .vmem S4x128x4x1024 .f32 := Memref.whole cc0_scratch0
/-- The ring of four slots for chunks of the table, in VMEM. -/
abbrev eRing : Memref sig .tc .vmem S4x128x1024 .f32 := Memref.whole cc0_scratch1

/-- What a memref's buffer can hold on core `c`. -/
abbrev Held (c : Dev nD) {sp : Space} {S : Shape} {e : EltTy} (M : Memref sig .tc sp S e) : Type :=
  Buf (Elt F) (M.view.loc (c : Thread nD τ))
/-- Core `c` holds the memref's buffer, all of it, at contents `f`. -/
abbrev whole (c : Dev nD) {sp : Space} {S : Shape} {e : EltTy} (M : Memref sig .tc sp S e) (f : Held (F := F) c M) : sProp 𝕄 :=
  M.view.loc (c : Thread nD τ) ↦{fullShare} f

/-! ## Slots and chunks -/

/-- The slot of `xRing` at offsets `r`, as the transfers name it. -/
abbrev xSlot (r : Fin 4 → ℕ) (h : ∀ a, r a + S1x128x4x1024.size a ≤ S4x128x4x1024.size a) : Memref sig .tc .vmem S128x4x1024 .f32 :=
  (xRing.slice (Rect.unit (s := S4x128x4x1024) r S1x128x4x1024.size h) (fun _ => rfl)).squeeze S128x4x1024 squeezes_S1x128x4x1024_S128x4x1024
/-- The slot of `eRing` at offsets `r`, as the transfers name it. -/
abbrev eSlot (r : Fin 3 → ℕ) (h : ∀ a, r a + S1x128x1024.size a ≤ S4x128x1024.size a) : Memref sig .tc .vmem S128x1024 .f32 :=
  (eRing.slice (Rect.unit (s := S4x128x1024) r S1x128x1024.size h) (fun _ => rfl)).squeeze S128x1024 squeezes_S1x128x1024_S128x1024
/-- The chunk of `x` at offsets `r`. -/
abbrev xChunk (r : Fin 3 → ℕ) (h : ∀ a, r a + S128x4x1024.size a ≤ S2048x4x1024.size a) : Memref sig .tc .hbm S128x4x1024 .f32 :=
  xHbm.slice (Rect.unit (s := S2048x4x1024) r S128x4x1024.size h) (fun _ => rfl)
/-- The chunk of the table at offsets `r`. -/
abbrev eChunk (r : Fin 2 → ℕ) (h : ∀ a, r a + S128x1024.size a ≤ S2048x1024.size a) : Memref sig .tc .hbm S128x1024 .f32 :=
  eHbm.slice (Rect.unit (s := S2048x1024) r S128x1024.size h) (fun _ => rfl)
/-- The chunk of the result at offsets `r`. -/
abbrev oChunk (r : Fin 3 → ℕ) (h : ∀ a, r a + S128x4x1024.size a ≤ S2048x4x1024.size a) : Memref sig .tc .hbm S128x4x1024 .f32 :=
  oHbm.slice (Rect.unit (s := S2048x4x1024) r S128x4x1024.size h) (fun _ => rfl)

/-- Core `c` holds one slot of `xRing`. -/
abbrev xSlotAt (c : Dev nD) (r : Fin 4 → ℕ) (h : ∀ a, r a + S1x128x4x1024.size a ≤ S4x128x4x1024.size a) (f : Held (F := F) c xRing) : sProp 𝕄 :=
  (xSlot r h).view.loc (c : Thread nD τ) ↦[(xSlot r h).view.set]{fullShare} f
/-- Core `c` holds one slot of `eRing`. -/
abbrev eSlotAt (c : Dev nD) (r : Fin 3 → ℕ) (h : ∀ a, r a + S1x128x1024.size a ≤ S4x128x1024.size a) (f : Held (F := F) c eRing) : sProp 𝕄 :=
  (eSlot r h).view.loc (c : Thread nD τ) ↦[(eSlot r h).view.set]{fullShare} f
/-- Core `c` holds one chunk of the result. -/
abbrev oChunkAt (c : Dev nD) (r : Fin 3 → ℕ) (h : ∀ a, r a + S128x4x1024.size a ≤ S2048x4x1024.size a) (f : Held (F := F) c oHbm) : sProp 𝕄 :=
  (oChunk r h).view.loc (c : Thread nD τ) ↦[(oChunk r h).view.set]{fullShare} f

/-! ## The families by number -/

abbrev xSlotOff (k : Fin 4) : Fin 4 → ℕ := ![k.val, 0, 0, 0]
abbrev eSlotOff (k : Fin 4) : Fin 3 → ℕ := ![k.val, 0, 0]
abbrev oChunkOff (b : Fin 16) : Fin 3 → ℕ := ![128 * b.val, 0, 0]

theorem xSlot_inb : ∀ (k : Fin 4) a, xSlotOff k a + S1x128x4x1024.size a ≤ S4x128x4x1024.size a := by decide
theorem eSlot_inb : ∀ (k : Fin 4) a, eSlotOff k a + S1x128x1024.size a ≤ S4x128x1024.size a := by decide
theorem oChunk_inb : ∀ (b : Fin 16) a, oChunkOff b a + S128x4x1024.size a ≤ S2048x4x1024.size a := by decide

/-- The elements of `xRing` under a slot. -/
abbrev xSlotSet (k : Fin 4) : Finset S4x128x4x1024.Idx := (xSlot (xSlotOff k) (xSlot_inb k)).view.set
/-- The elements of `eRing` under a slot. -/
abbrev eSlotSet (k : Fin 4) : Finset S4x128x1024.Idx := (eSlot (eSlotOff k) (eSlot_inb k)).view.set
/-- The elements of the result under a chunk. -/
abbrev oChunkSet (b : Fin 16) : Finset S2048x4x1024.Idx := (oChunk (oChunkOff b) (oChunk_inb b)).view.set

/-- A slot of `xRing` occupies its rectangle's elements. -/
theorem xSlotSet_eq (k : Fin 4) : xSlotSet k = (Rect.unit (s := S4x128x4x1024) (xSlotOff k) S1x128x4x1024.size (xSlot_inb k)).set :=
  (View.set_reshape (v := xRing.view.slice (Rect.unit (s := S4x128x4x1024) (xSlotOff k) S1x128x4x1024.size (xSlot_inb k))) _).trans
    (View.set_slice_whole cc0_scratch0 _)
/-- A slot of `eRing` occupies its rectangle's elements. -/
theorem eSlotSet_eq (k : Fin 4) : eSlotSet k = (Rect.unit (s := S4x128x1024) (eSlotOff k) S1x128x1024.size (eSlot_inb k)).set :=
  (View.set_reshape (v := eRing.view.slice (Rect.unit (s := S4x128x1024) (eSlotOff k) S1x128x1024.size (eSlot_inb k))) _).trans
    (View.set_slice_whole cc0_scratch1 _)
/-- A chunk of the result occupies its rectangle's elements. -/
theorem oChunkSet_eq (b : Fin 16) : oChunkSet b = (Rect.unit (s := S2048x4x1024) (oChunkOff b) S128x4x1024.size (oChunk_inb b)).set :=
  View.set_slice_whole main_v0 _

theorem xSlot_disjoint (k k' : Fin 4) (h : k ≠ k') : Disjoint (xSlotSet k) (xSlotSet k') := by
  rw [xSlotSet_eq, xSlotSet_eq]
  exact Ring.lead_disjoint (s := S4x128x4x1024) 0 1 xSlotOff S1x128x4x1024.size xSlot_inb (by decide) rfl k k' h
theorem eSlot_disjoint (k k' : Fin 4) (h : k ≠ k') : Disjoint (eSlotSet k) (eSlotSet k') := by
  rw [eSlotSet_eq, eSlotSet_eq]
  exact Ring.lead_disjoint (s := S4x128x1024) 0 1 eSlotOff S1x128x1024.size eSlot_inb (by decide) rfl k k' h
theorem oChunk_disjoint (b b' : Fin 16) (h : b ≠ b') : Disjoint (oChunkSet b) (oChunkSet b') := by
  rw [oChunkSet_eq, oChunkSet_eq]
  exact Ring.lead_disjoint (s := S2048x4x1024) 0 128 oChunkOff S128x4x1024.size oChunk_inb (by decide) rfl b b' h

theorem xSlot_cover : Finset.univ.biUnion xSlotSet = Finset.univ := by
  rw [show xSlotSet = _ from funext xSlotSet_eq]
  exact Ring.lead_cover (s := S4x128x4x1024) 0 1 xSlotOff S1x128x4x1024.size xSlot_inb (by decide) (by decide) rfl (by decide) rfl
theorem eSlot_cover : Finset.univ.biUnion eSlotSet = Finset.univ := by
  rw [show eSlotSet = _ from funext eSlotSet_eq]
  exact Ring.lead_cover (s := S4x128x1024) 0 1 eSlotOff S1x128x1024.size eSlot_inb (by decide) (by decide) rfl (by decide) rfl
theorem oChunk_cover : Finset.univ.biUnion oChunkSet = Finset.univ := by
  rw [show oChunkSet = _ from funext oChunkSet_eq]
  exact Ring.lead_cover (s := S2048x4x1024) 0 128 oChunkOff S128x4x1024.size oChunk_inb (by decide) (by decide) rfl (by decide) rfl

/-! ## Whole buffers as their parts -/

/-- `xRing` held whole is its four slots. -/
theorem xRing_slots (c : Dev nD) (f : Held (F := F) c xRing) :
    whole c xRing f = iprop(xSlotAt c ![0, 0, 0, 0] inb_S4x128x4x1024_S1x128x4x1024_0_0_0_0 f
        ∗ xSlotAt c ![1, 0, 0, 0] inb_S4x128x4x1024_S1x128x4x1024_1_0_0_0 f
        ∗ xSlotAt c ![2, 0, 0, 0] inb_S4x128x4x1024_S1x128x4x1024_2_0_0_0 f
        ∗ xSlotAt c ![3, 0, 0, 0] inb_S4x128x4x1024_S1x128x4x1024_3_0_0_0 f) := by
  refine (Ring.pointsTo_blocks (ℓ := xRing.view.loc (c : Thread nD τ)) xSlotSet xSlot_disjoint xSlot_cover f).trans ?_
  rw [bigSep_univ_eq_bigSepL [0, 1, 2, 3] (by decide) (by decide)]; rfl
/-- `eRing` held whole is its four slots. -/
theorem eRing_slots (c : Dev nD) (f : Held (F := F) c eRing) :
    whole c eRing f = iprop(eSlotAt c ![0, 0, 0] inb_S4x128x1024_S1x128x1024_0_0_0 f
        ∗ eSlotAt c ![1, 0, 0] inb_S4x128x1024_S1x128x1024_1_0_0 f
        ∗ eSlotAt c ![2, 0, 0] inb_S4x128x1024_S1x128x1024_2_0_0 f
        ∗ eSlotAt c ![3, 0, 0] inb_S4x128x1024_S1x128x1024_3_0_0 f) := by
  refine (Ring.pointsTo_blocks (ℓ := eRing.view.loc (c : Thread nD τ)) eSlotSet eSlot_disjoint eSlot_cover f).trans ?_
  rw [bigSep_univ_eq_bigSepL [0, 1, 2, 3] (by decide) (by decide)]; rfl
/-- The result held whole is its sixteen chunks. -/
theorem oHbm_chunks (c : Dev nD) (f : Held (F := F) c oHbm) :
    whole c oHbm f = iprop(oChunkAt c ![0, 0, 0] inb_S2048x4x1024_S128x4x1024_0_0_0 f
        ∗ oChunkAt c ![128, 0, 0] inb_S2048x4x1024_S128x4x1024_128_0_0 f
        ∗ oChunkAt c ![256, 0, 0] inb_S2048x4x1024_S128x4x1024_256_0_0 f
        ∗ oChunkAt c ![384, 0, 0] inb_S2048x4x1024_S128x4x1024_384_0_0 f
        ∗ oChunkAt c ![512, 0, 0] inb_S2048x4x1024_S128x4x1024_512_0_0 f
        ∗ oChunkAt c ![640, 0, 0] inb_S2048x4x1024_S128x4x1024_640_0_0 f
        ∗ oChunkAt c ![768, 0, 0] inb_S2048x4x1024_S128x4x1024_768_0_0 f
        ∗ oChunkAt c ![896, 0, 0] inb_S2048x4x1024_S128x4x1024_896_0_0 f
        ∗ oChunkAt c ![1024, 0, 0] inb_S2048x4x1024_S128x4x1024_1024_0_0 f
        ∗ oChunkAt c ![1152, 0, 0] inb_S2048x4x1024_S128x4x1024_1152_0_0 f
        ∗ oChunkAt c ![1280, 0, 0] inb_S2048x4x1024_S128x4x1024_1280_0_0 f
        ∗ oChunkAt c ![1408, 0, 0] inb_S2048x4x1024_S128x4x1024_1408_0_0 f
        ∗ oChunkAt c ![1536, 0, 0] inb_S2048x4x1024_S128x4x1024_1536_0_0 f
        ∗ oChunkAt c ![1664, 0, 0] inb_S2048x4x1024_S128x4x1024_1664_0_0 f
        ∗ oChunkAt c ![1792, 0, 0] inb_S2048x4x1024_S128x4x1024_1792_0_0 f
        ∗ oChunkAt c ![1920, 0, 0] inb_S2048x4x1024_S128x4x1024_1920_0_0 f) := by
  refine (Ring.pointsTo_blocks (ℓ := oHbm.view.loc (c : Thread nD τ)) oChunkSet oChunk_disjoint oChunk_cover f).trans ?_
  rw [bigSep_univ_eq_bigSepL [0, 1, 2, 3, 4, 5, 6, 7, 8, 9, 10, 11, 12, 13, 14, 15] (by decide) (by decide)]; rfl

/-- Four slots of `xRing` at contents of their own are `xRing` whole at some contents. -/
theorem xRing_join (c : Dev nD) :
    iprop((∃ f, xSlotAt (F := F) c ![0, 0, 0, 0] inb_S4x128x4x1024_S1x128x4x1024_0_0_0_0 f)
        ∗ (∃ f, xSlotAt (F := F) c ![1, 0, 0, 0] inb_S4x128x4x1024_S1x128x4x1024_1_0_0_0 f)
        ∗ (∃ f, xSlotAt (F := F) c ![2, 0, 0, 0] inb_S4x128x4x1024_S1x128x4x1024_2_0_0_0 f)
        ∗ (∃ f, xSlotAt (F := F) c ![3, 0, 0, 0] inb_S4x128x4x1024_S1x128x4x1024_3_0_0_0 f)) ⊢ (iprop(∃ f, whole c xRing f) : sProp 𝕄) := by
  have h : bigSep Finset.univ (fun k => iprop(∃ f : Held (F := F) c xRing, xRing.view.loc (c : Thread nD τ) ↦[xSlotSet k]{fullShare} f))
      ⊢ (iprop(∃ f, whole c xRing f) : sProp 𝕄) :=
    Ring.pointsTo_blocks_join_exists (ℓ := xRing.view.loc (c : Thread nD τ)) xSlotSet xSlot_disjoint xSlot_cover xRing.view.junk
  rw [bigSep_univ_eq_bigSepL [0, 1, 2, 3] (by decide) (by decide)] at h
  exact h
/-- Four slots of `eRing` at contents of their own are `eRing` whole at some contents. -/
theorem eRing_join (c : Dev nD) :
    iprop((∃ f, eSlotAt (F := F) c ![0, 0, 0] inb_S4x128x1024_S1x128x1024_0_0_0 f)
        ∗ (∃ f, eSlotAt (F := F) c ![1, 0, 0] inb_S4x128x1024_S1x128x1024_1_0_0 f)
        ∗ (∃ f, eSlotAt (F := F) c ![2, 0, 0] inb_S4x128x1024_S1x128x1024_2_0_0 f)
        ∗ (∃ f, eSlotAt (F := F) c ![3, 0, 0] inb_S4x128x1024_S1x128x1024_3_0_0 f)) ⊢ (iprop(∃ f, whole c eRing f) : sProp 𝕄) := by
  have h : bigSep Finset.univ (fun k => iprop(∃ f : Held (F := F) c eRing, eRing.view.loc (c : Thread nD τ) ↦[eSlotSet k]{fullShare} f))
      ⊢ (iprop(∃ f, whole c eRing f) : sProp 𝕄) :=
    Ring.pointsTo_blocks_join_exists (ℓ := eRing.view.loc (c : Thread nD τ)) eSlotSet eSlot_disjoint eSlot_cover eRing.view.junk
  rw [bigSep_univ_eq_bigSepL [0, 1, 2, 3] (by decide) (by decide)] at h
  exact h

end Cert.Kernel.Ring

end
-- ==== Proof.Ring.Block.lean ====
/-
  What one chunk's copies and addition leave: the ring's slot, filled with a chunk of `x`, overwritten with its sum with
  the table's rows, and copied out; and what the result then holds at each index.
-/
module

public import proofs.«01_k».proof.Proof.Ring.Pieces
public import proofs.«01_k».proof.Proof.Gen.Kernel.Skeleton
public import Idealize.ShloMosaic.Lib.Pipeline.ValueKit
public import Idealize.ShloMosaic.Lib.ViewIndex

@[expose] public section

noncomputable section

namespace Cert.Kernel.Ring

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The mathematics -/

/-- The sum of an array and of a table's rows: entry `(i, b, d)` is the array's plus the table's `(i, d)`. -/
def addRows (x : Vec F S2048x4x1024 .f32) (e : Vec F S2048x1024 .f32) : FVec F S2048x4x1024 .f32 :=
  addf x fun i => e (ix2 (i 0) (i 2))

/-- The same sum over one chunk of 128 rows. -/
def addRowsChunk (X : Vec F S128x4x1024 .f32) (E : Vec F S128x1024 .f32) : FVec F S128x4x1024 .f32 :=
  addf X fun y => E (ix2 (y 0) (y 2))

/-- The body's arithmetic on a chunk — unit axes added and dropped, the table's rows broadcast — is the chunk's sum. -/
theorem pay_eq (X : Vec F S128x4x1024 .f32) (E : Vec F S128x1024 .f32) :
    shapeCast S128x4x1024
        (k0_pay1 (shapeCast S1x128x4x1024 X shapeCasts_S128x4x1024_S1x128x4x1024) (shapeCast S1x128x1024 E (by decide)))
        shapeCasts_S1x128x4x1024_S128x4x1024
      = addRowsChunk X E := by
  funext y
  unfold k0_pay1 addRowsChunk
  pointwise

/-! ## A filled slot, through its unit axis -/

section Slot

variable {κ : Kind} {sp : Space} {s s' : Shape} {e : EltTy} (v : View sig κ sp s e)

/-- A view whose re-indexing was filled last by one payload reads that payload, re-indexed back. -/
theorem read_filled (h : s'.numel = s.numel) (f : v.ty.Contents (Elt F)) (X : s'.Idx → Elt F e)
    (L : List (View.Piece (Elt F) s' e)) :
    v.read (Elt F) ((v.reshape s' h).writes (Elt F) f (⟨Rect.whole s', X⟩ :: L)) = shapeCast s X h.symm := by
  funext y
  obtain ⟨x, rfl⟩ := (Shape.reshapeEquiv h).surjective y
  have h1 := View.read_writes_cons_emb (Val := Elt F) (v.reshape s' h) f (Rect.whole s') X L x
  rw [Rect.emb_whole_apply] at h1
  refine Eq.trans h1 ?_
  exact (congrArg X (by rw [Shape.reshapeEquiv_reshapeEquiv, Shape.reshapeEquiv_self])).symm

/-- A view's re-indexing reads what was stored through the view, re-indexed. -/
theorem read_stored (h : s'.numel = s.numel) (f : v.ty.Contents (Elt F)) (p : s.Idx → Elt F e) :
    (v.reshape s' h).read (Elt F) (v.write (Elt F) f p Finset.univ) = shapeCast s' p h := by
  funext x
  exact View.read_write_of_mem (v := v) f p (Finset.mem_univ (Shape.reshapeEquiv h x))

end Slot

/-- THE CHUNK. A slot filled with `X`, its twin filled with `E`, the body's sum stored over the first: the slot reads
    the chunk's sum, whatever either slot held before. -/
theorem slot_sum (r : Fin 4 → ℕ) (h) (r' : Fin 3 → ℕ) (h')
    (f : (xSlot r h).view.ty.Contents (Elt F)) (f' : (eSlot r' h').view.ty.Contents (Elt F))
    (X : Vec F S128x4x1024 .f32) (E : Vec F S128x1024 .f32) (g : (xRing.access (Rect.unit (s := S4x128x4x1024) r S1x128x4x1024.size h)).ty.Contents (Elt F))
    (L : List (View.Piece (Elt F) S128x4x1024 .f32)) (L' : List (View.Piece (Elt F) S128x1024 .f32)) :
    ReadAs.same.apply ((xSlot r h).view.read (Elt F)
      ((xRing.access (Rect.unit (s := S4x128x4x1024) r S1x128x4x1024.size h)).write (Elt F) g
        (k0_pay1
          (xRing.view.readAt (Elt F) (Rect.unit (s := S4x128x4x1024) r S1x128x4x1024.size h).toLoadRect
            ((xSlot r h).view.writes (Elt F) f (⟨Rect.whole S128x4x1024, X⟩ :: L)))
          (eRing.view.readAt (Elt F) (Rect.unit (s := S4x128x1024) r' S1x128x1024.size h').toLoadRect
            ((eSlot r' h').view.writes (Elt F) f' (⟨Rect.whole S128x1024, E⟩ :: L'))))
        Finset.univ))
      = addRowsChunk X E := by
  have hX := read_filled (F := F) (xRing.view.slice (Rect.unit (s := S4x128x4x1024) r S1x128x4x1024.size h))
    squeezes_S1x128x4x1024_S128x4x1024.numel_eq f X L
  have hE := read_filled (F := F) (eRing.view.slice (Rect.unit (s := S4x128x1024) r' S1x128x1024.size h'))
    squeezes_S1x128x1024_S128x1024.numel_eq f' E L'
  have hS := read_stored (F := F) (xRing.view.slice (Rect.unit (s := S4x128x4x1024) r S1x128x4x1024.size h))
    squeezes_S1x128x4x1024_S128x4x1024.numel_eq g
    (k0_pay1 (shapeCast S1x128x4x1024 X shapeCasts_S128x4x1024_S1x128x4x1024) (shapeCast S1x128x1024 E (by decide)))
  refine Eq.trans ?_ (hS.trans (pay_eq X E))
  rw [View.readAt_rect, View.readAt_rect]
  exact congrArg₂ (fun a b => (xSlot r h).view.read (Elt F)
    ((xRing.access (Rect.unit (s := S4x128x4x1024) r S1x128x4x1024.size h)).write (Elt F) g (k0_pay1 a b) Finset.univ)) hX hE

/-! ## The result's chunk -/

/-- A chunk of the result filled with the sum of the same rows of `x` and of the table is that chunk of `addRows`. -/
theorem oChunk_sum (c : Dev nD) (n : ℕ) (h) (h') (h'')
    (fx : Held (F := F) c xHbm) (fe : Held (F := F) c eHbm) (g : Held (F := F) c oHbm) (p : Vec F S128x4x1024 .f32)
    (hp : p = addRowsChunk (ReadAs.same.apply ((xChunk ![n, 0, 0] h).view.read (Elt F) fx))
      (ReadAs.same.apply ((eChunk ![n, 0] h').view.read (Elt F) fe))) :
    oChunkAt c ![n, 0, 0] h'' ((oChunk ![n, 0, 0] h'').view.writes (Elt F) g [⟨Rect.whole S128x4x1024, p⟩])
      ⊢ (oChunkAt c ![n, 0, 0] h'' (addRows fx fe) : sProp 𝕄) := by
  subst hp
  refine of_eq (pointsTo_congr fun i hi => ?_)
  obtain ⟨y, -, rfl⟩ := Finset.mem_map.mp hi
  refine View.eq_of_read_eq (v := (oChunk ![n, 0, 0] h'').view) ?_
  rw [View.read_writes_whole]
  refine congrArg (FloatOps.addf (F := F) (fx ((oChunk ![n, 0, 0] h'').view.emb y))) ?_
  refine congrArg fe (funext fun a => ?_)
  match a with
  | ⟨0, _⟩ => rfl
  | ⟨1, _⟩ => rfl

end Cert.Kernel.Ring

end
-- ==== Proof.Ring.Body.lean ====
/-
  The body's run: from the operands, the two rings and the twelve semaphore counters at zero, it ends with the result
  holding the sum, everything else as it was.
-/
module

public import proofs.«01_k».proof.Proof.Ring.Block
public import proofs.«01_k».proof.Proof.Gen.Kernel.Points

@[expose] public section

noncomputable section

namespace Cert.Kernel.Ring

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two rings, each whole at some contents. -/
abbrev ringsAt (c : Dev nD) : sProp 𝕄 := iprop((∃ f, whole (F := F) c xRing f) ∗ (∃ f, whole (F := F) c eRing f))

/-- The body's twelve semaphore counters at zero: four for the copies of `x` in, four for the table's, four for the
    copies out. -/
abbrev cellsAt (c : Dev nD) : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)

/-- THE BODY. The result ends at `addRows` of what `x` and the table hold, whatever it and the rings held. -/
theorem body_run (c : Dev nD) (fx : Held (F := F) c xHbm) (fe : Held (F := F) c eHbm) (g : Held (F := F) c oHbm)
    (W : Waits sig Unit) (K : PUnit → sProp 𝕄) :
    iprop(ringsAt (F := F) c ∗ cellsAt (F := F) c ∗ whole c xHbm fx ∗ whole c eHbm fe ∗ whole c oHbm g
        ∗ owes (c : Thread nD τ) 0 W
        ∗ (iprop(ringsAt (F := F) c ∗ cellsAt (F := F) c ∗ whole c xHbm fx ∗ whole c eHbm fe ∗ whole c oHbm (addRows fx fe)
            ∗ (∃ W', owes (c : Thread nD τ) 0 W')) -∗ K ⟨⟩))
      ⊢ wp frame (wpE (defs₀ (F := F)) Variants.none c none) Set.univ
          (cc0_body xHbm (Memref.isWhole_whole _) eHbm (Memref.isWhole_whole _) oHbm (Memref.isWhole_whole _)
            xRing (Memref.isWhole_whole _) eRing (Memref.isWhole_whole _) cc0_scratch2 cc0_scratch3 cc0_scratch4) K := by
  simp only [cc0_body_eq_skeleton]; unfold cc0_body_skel
  iintro ⟨⟨⟨%f, HX⟩, ⟨%f', HE⟩⟩, ⟨C0, C1, C2, C3, C4, C5, C6, C7, C8, C9, C10, C11⟩, Hx, He, HO, HW, Hk⟩
  ihave HX := (of_eq (xRing_slots c f)) $$ HX
  icases HX with ⟨X0, X1, X2, X3⟩
  ihave HE := (of_eq (eRing_slots c f')) $$ HE
  icases HE with ⟨E0, E1, E2, E3⟩
  ihave HO := (of_eq (oHbm_chunks c g)) $$ HO
  icases HO with ⟨O0, O1, O2, O3, O4, O5, O6, O7, O8, O9, O10, O11, O12, O13, O14, O15⟩
  sl_exec
  sl_step
  iapply Hk
  isplitl [X0 X1 X2 X3 E0 E1 E2 E3]
  · isplitl [X0 X1 X2 X3]
    · iapply (xRing_join c)
      isplitl [X0]; · iexists _; iexact X0
      isplitl [X1]; · iexists _; iexact X1
      isplitl [X2]; · iexists _; iexact X2
      iexists _; iexact X3
    · iapply (eRing_join c)
      isplitl [E0]; · iexists _; iexact E0
      isplitl [E1]; · iexists _; iexact E1
      isplitl [E2]; · iexists _; iexact E2
      iexists _; iexact E3
  isplitl [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [Hx]; · iexact Hx
  isplitl [He]; · iexact He
  isplitl [O0 O1 O2 O3 O4 O5 O6 O7 O8 O9 O10 O11 O12 O13 O14 O15]
  · iapply (of_eq (oHbm_chunks c (addRows fx fe)).symm)
    isplitl [O0]; · iapply (oChunk_sum c 0 _ _ _ fx fe g _ (slot_sum ![0, 0, 0, 0] _ ![0, 0, 0] _ _ _ _ _ _ _ _)); iexact O0
    isplitl [O1]; · iapply (oChunk_sum c 128 _ _ _ fx fe g _ (slot_sum ![1, 0, 0, 0] _ ![1, 0, 0] _ _ _ _ _ _ _ _)); iexact O1
    isplitl [O2]; · iapply (oChunk_sum c 256 _ _ _ fx fe g _ (slot_sum ![2, 0, 0, 0] _ ![2, 0, 0] _ _ _ _ _ _ _ _)); iexact O2
    isplitl [O3]; · iapply (oChunk_sum c 384 _ _ _ fx fe g _ (slot_sum ![3, 0, 0, 0] _ ![3, 0, 0] _ _ _ _ _ _ _ _)); iexact O3
    isplitl [O4]; · iapply (oChunk_sum c 512 _ _ _ fx fe g _ (slot_sum ![0, 0, 0, 0] _ ![0, 0, 0] _ _ _ _ _ _ _ _)); iexact O4
    isplitl [O5]; · iapply (oChunk_sum c 640 _ _ _ fx fe g _ (slot_sum ![1, 0, 0, 0] _ ![1, 0, 0] _ _ _ _ _ _ _ _)); iexact O5
    isplitl [O6]; · iapply (oChunk_sum c 768 _ _ _ fx fe g _ (slot_sum ![2, 0, 0, 0] _ ![2, 0, 0] _ _ _ _ _ _ _ _)); iexact O6
    isplitl [O7]; · iapply (oChunk_sum c 896 _ _ _ fx fe g _ (slot_sum ![3, 0, 0, 0] _ ![3, 0, 0] _ _ _ _ _ _ _ _)); iexact O7
    isplitl [O8]; · iapply (oChunk_sum c 1024 _ _ _ fx fe g _ (slot_sum ![0, 0, 0, 0] _ ![0, 0, 0] _ _ _ _ _ _ _ _)); iexact O8
    isplitl [O9]; · iapply (oChunk_sum c 1152 _ _ _ fx fe g _ (slot_sum ![1, 0, 0, 0] _ ![1, 0, 0] _ _ _ _ _ _ _ _)); iexact O9
    isplitl [O10]; · iapply (oChunk_sum c 1280 _ _ _ fx fe g _ (slot_sum ![2, 0, 0, 0] _ ![2, 0, 0] _ _ _ _ _ _ _ _)); iexact O10
    isplitl [O11]; · iapply (oChunk_sum c 1408 _ _ _ fx fe g _ (slot_sum ![3, 0, 0, 0] _ ![3, 0, 0] _ _ _ _ _ _ _ _)); iexact O11
    isplitl [O12]; · iapply (oChunk_sum c 1536 _ _ _ fx fe g _ (slot_sum ![0, 0, 0, 0] _ ![0, 0, 0] _ _ _ _ _ _ _ _)); iexact O12
    isplitl [O13]; · iapply (oChunk_sum c 1664 _ _ _ fx fe g _ (slot_sum ![1, 0, 0, 0] _ ![1, 0, 0] _ _ _ _ _ _ _ _)); iexact O13
    isplitl [O14]; · iapply (oChunk_sum c 1792 _ _ _ fx fe g _ (slot_sum ![2, 0, 0, 0] _ ![2, 0, 0] _ _ _ _ _ _ _ _)); iexact O14
    iapply (oChunk_sum c 1920 _ _ _ fx fe g _ (slot_sum ![3, 0, 0, 0] _ ![3, 0, 0] _ _ _ _ _ _ _ _)); iexact O15
  iexists _; iexact HW

end Cert.Kernel.Ring

end
-- ==== Proof.Ring.Run.lean ====
/-
  The launch: the body's run carried through the kernel's region and `main`, to the state the program ends in.
-/
module

public import proofs.«01_k».proof.Proof.Ring.Body
public import Idealize.ShloMosaic.Lib.Pipeline.FrameValue

@[expose] public section

noncomputable section

namespace Cert.Kernel.Ring

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold before and after -/

/-- Each buffer of core `c` as the program finds it. -/
abbrev before (c : Dev nD) (b : Ref sig .tc) : Buf (Elt F) ((c : Thread nD τ).loc b) := m ((c : Thread nD τ).loc b)

/-- The sum the program leaves in the result of core `c`: each row of `x` plus its row of the table. -/
abbrev total (c : Dev nD) : S2048x4x1024.Idx → Elt F .f32 :=
  addRows (F := F) (m ((c : Thread nD τ).loc main_arg0)) (m ((c : Thread nD τ).loc main_arg1))

/-- Each buffer of core `c` as the program leaves it: the result at the sum, the others as they were. -/
def after (c : Dev nD) : (b : Ref sig .tc) → Buf (Elt F) ((c : Thread nD τ).loc b) :=
  Function.update (before m c) main_v0 (total m c)

theorem after_v0 (c : Dev nD) : after m c main_v0 = total m c := Function.update_self ..

/-! ## The pieces of the region's state -/

/-- The operands the body only reads. -/
def read : Finset (Ref sig .tc) := {main_arg0, main_arg1}
/-- The operand the body writes. -/
def written : Finset (Ref sig .tc) := {main_v0}
theorem read_sub : read ⊆ Pipeline.restRefs sig cfg0.spec := by decide
theorem written_sub : written ⊆ Pipeline.restRefs sig cfg0.spec \ read := by decide

/-- The body's semaphore cells by number. -/
abbrev cells : Fin 12 → SemLoc sig := fun j => (![SemLoc.dma 0, SemLoc.dma 1, SemLoc.dma 2, SemLoc.dma 3, SemLoc.dma 4, SemLoc.dma 5,
  SemLoc.dma 6, SemLoc.dma 7, SemLoc.dma 8, SemLoc.dma 9, SemLoc.dma 10, SemLoc.dma 11] : Fin 12 → SemLoc sig) j
theorem cells_own : Pipeline.OwnSemFacts cfg0.spec cells := by decide
theorem cells_eq (c : Dev nD) :
    (Pipeline.ownSems0 (Ix := Unit) (Name := ℕ) (U := Pipeline.UD sig nD τ) (Lvl := ℕ) (Val := Elt F) (τ := τ) cells c : sProp 𝕄)
      = cellsAt (F := F) c := by
  rw [Pipeline.ownSems0_eq_of_list c cells [0, 1, 2, 3, 4, 5, 6, 7, 8, 9, 10, 11] (by decide) (by decide)]; rfl
theorem read_eq (c : Dev nD) :
    (bigSep read (fun b => ((c : Thread nD τ).loc b) ↦{fullShare} before m c b) : sProp 𝕄)
      = iprop(whole c xHbm (before m c main_arg0) ∗ whole c eHbm (before m c main_arg1)) := by
  rw [BI.bigSep_eq_bigSepL_of_eq [main_arg0, main_arg1] (by decide) (by decide)]; rfl

/-- The state around the body, its result at the contents `G`: the rings at anything, the generator's register, the
    cells at zero, the two arguments as launched, the result. -/
theorem state_eq (G : (c : Dev nD) → (b : Ref sig .tc) → Buf (Elt F) ((c : Thread nD τ).loc b)) (c : Dev nD) :
    (Pipeline.ΦDRG cells cfg0.spec read written (before m) G c : sProp 𝕄)
      = iprop(ringsAt (F := F) c ∗ (∃ r, prngReg c r) ∗ cellsAt (F := F) c
          ∗ iprop(whole c xHbm (before m c main_arg0) ∗ whole c eHbm (before m c main_arg1)) ∗ whole c oHbm (G c main_v0)) := by
  rw [Pipeline.ΦDRG_eq, scopedRest0_eq, cells_eq, read_eq, show written = {main_v0} from rfl, Pipeline.routed_singleton]

/-! ## The proof data and the body obligation -/

/-- The region's one pipeline on core `c`: no window; before the one point the result is as launched, after it the sum. -/
def dats (_ : Fin 1) (c : Dev nD) : Dat τ (Elt F) Unit ℕ (Pipeline.UD sig nD τ) ℕ cfg0 c where
  A w := before m c (Pipeline.arrRef cfg0.spec w)
  after w _ := w.elim0
  Φ t := Pipeline.ΦDRG cells cfg0.spec read written (before m) (if t.val = 0 then before m else after m) c
  q _ := fullShare
  owed _ := 0

theorem state_first (c : Dev nD) (t : Fin cfg0.N) :
    (dats m 0 c).Φ t.castSucc = Pipeline.ΦDRG cells cfg0.spec read written (before m) (before m) c := by
  rw [fin_N0 t]; rfl
theorem state_last (c : Dev nD) (t : Fin cfg0.N) :
    (dats m 0 c).Φ t.succ = Pipeline.ΦDRG cells cfg0.spec read written (before m) (after m) c := by
  rw [fin_N0 t]; rfl

/-- The body meets its obligation: it takes the state before the point to the state after it. -/
theorem body_obligation (c : Dev nD) : BodyObligation (dats (F := F) m 0 c) (defs₀ (F := F)) Variants.none () Set.univ := fun t => by
  rw [show defs₀ (F := F) .tc cfg0.body (cfg0.bodyArgs t (cfg0.slots t)) = bodyAt0 t by unfold defs₀; rw [Defs.onTc_tc],
    state_first, state_last, state_eq, state_eq, after_v0]
  unfold Dat.owesAt Pipeline.owesWithin bodyAt0
  rw [show (dats m 0 c).owed t.castSucc = 0 from rfl, show (dats m 0 c).owed t.succ = 0 from rfl]
  iintro ⟨⟨HR, Hg, HC, ⟨Hx, He⟩, HO⟩, ⟨%W, -, HW⟩, Hn⟩
  iapply (body_run c (before m c main_arg0) (before m c main_arg1) (before m c main_v0) W _)
  isplitl [HR]; · iexact HR
  isplitl [HC]; · iexact HC
  isplitl [Hx]; · iexact Hx
  isplitl [He]; · iexact He
  isplitl [HO]; · iexact HO
  isplitl [HW]; · iexact HW
  iintro ⟨HR, HC, Hx, He, HO, ⟨%W', HW'⟩⟩
  isplitl [HR Hg HC Hx He HO]
  · isplitl [HR]; · iexact HR
    isplitl [Hg]; · iexact Hg
    isplitl [HC]; · iexact HC
    isplitl [Hx He]
    · isplitl [Hx]; · iexact Hx
      iexact He
    iexact HO
  isplitl [HW']
  · iexists W'; isplitr; · ipureintro; exact fun _ _ => Or.inl trivial
    iexact HW'
  iexact Hn

/-! ## The run -/

theorem hmain (𝒱₀ : Variants) : Pipeline.HMain (Ix := Unit) (Name := ℕ) (U := Pipeline.UD sig nD τ) (Lvl := ℕ) cfgs 0 defs₀ 𝒱₀ m (main (F := F)) (before m) :=
  Pipeline.hmain_region cfgs 0 defs₀ 𝒱₀ m main fun c => (main_chain c).trans rfl

set_option backward.isDefEq.respectTransparency.types false in
/-- The program, run by the launch theorem: every buffer outside the result as launched, the result at the sum, every
    counter at zero. -/
theorem run_main : θ_run defs (onTc (τ := τ) (main (F := F))) (s₀ m ρ)
    (fun r => Pipeline.FramePostRG cfgs (dats m) 0 written (before m) (after m) r ∧ r.2.sem = fun _ => 0) :=
  Pipeline.θ_run_frame_dmaRG (Q' := _) cfgs (dats m) (0 : Fin 1) launch0 cells defs₀ Variants.none cells_own read written read_sub written_sub m ρ main
    (hbody := fun c => (body_obligation m c).loose) (hshare := fun c => (dats m 0 c).share_full fun _ => rfl)
    (howed := fun _ _ => rfl) (V := before m) (hmain := hmain m Variants.none) (hA := fun _ _ => rfl) (G := after m)
    (hin := fun _ => .rfl) (hout := fun _ => .rfl)

/-- THE KERNEL'S VALUE. The program ends with the result at the sum, both arguments as launched and every semaphore
    counter at zero, whatever the floats are. -/
theorem run : θ_run defs (onTc (τ := τ) (main (F := F))) ⟨m, fun _ => 0, ρ⟩ (fun r => (∀ c : Dev nD,
      r.2.mem ((c.tc : Thread nD τ).loc main_v0) = total m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.written c (by decide)).trans (after_v0 m c),
    (h.1.toR c).2 main_arg0 (Finset.mem_sdiff.mpr ⟨Pipeline.mem_restRefs_of main_arg0 (by decide) (by decide), by decide⟩),
    (h.1.toR c).2 main_arg1 (Finset.mem_sdiff.mpr ⟨Pipeline.mem_restRefs_of main_arg1 (by decide) (by decide), by decide⟩)⟩, h.2⟩) (run_main m ρ)

end Cert.Kernel.Ring

end
-- ==== Proof.Take.lean ====
/-
  The reference's value: its lookup of the table's rows `0, 1, …, 2047` is the table itself, so its result is each row of
  `x` plus the table's row of the same number.
-/
module

public import proofs.«01_k».proof.Proof.Gen.ReferenceIdeal.Run
public import proofs.«01_k».proof.Proof.Ring.Block
public import Idealize.ShloMosaic.Lib.Pointwise
public import Idealize.ShloMosaic.Lib.WordCmp

@[expose] public section

noncomputable section

namespace Cert.ReferenceIdeal.Take

open Cert.ReferenceIdeal Cert.ReferenceIdeal.Gen
open Idealize.ShloMosaic Idealize.ShloMosaic.TcCoe Idealize.SL.Sem

variable {F : FTy → Type} [FloatOps F]

/-! ## The row numbers -/

/-- The row numbers the reference looks up, as it computes them: the counter along the rows, a negative one moved up by
    the table's height. -/
abbrev rowWords : IVec S2048x1x1 32 :=
  broadcastInDim S2048x1x1 ![0, 1] bcast_S2048x1_S2048x1x1_0_1
    (select (cmpi .slt (broadcastInDim S2048x1 ![0] bcast_S2048_S2048x1_0 (iotaInDim S2048 32 0)) (broadcastInDim S2048x1 ![] bcast_S_S2048x1 (constantI S_ 32 0#32)))
      (addi (broadcastInDim S2048x1 ![0] bcast_S2048_S2048x1_0 (iotaInDim S2048 32 0)) (broadcastInDim S2048x1 ![] bcast_S_S2048x1 (constantI S_ 32 2048#32)))
      (broadcastInDim S2048x1 ![0] bcast_S2048_S2048x1_0 (iotaInDim S2048 32 0)))

/-- The number looked up for a row is the row's own. -/
theorem rowWords_apply (y : S2048x1x1.Idx) : rowWords y = BitVec.ofNat 32 (y 0).val := by
  idx_vars y
  unfold rowWords
  pointwise [hlo_ix]
  simp (disch := word_cmp_side) only [hlo_ix]
  exact if_neg (Nat.not_lt_zero _)

/-- The reference's test that each row number lies in the table. -/
abbrev inTable : IVec S2048x1x1 1 :=
  andi (cmpi .sge rowWords (broadcastInDim S2048x1x1 ![] bcast_S_S2048x1x1 (constantI S_ 32 0#32)))
    (cmpi .sle rowWords (broadcastInDim S2048x1x1 ![0, 1, 2] bcast_S1x1x1_S2048x1x1_0_1_2
      (broadcastInDim S1x1x1 ![2] bcast_S1_S1x1x1_2 (constantI S1 32 2047#32))))

/-- Every row number passes the test. -/
theorem inTable_eq : inTable = fun _ => 1#1 := by
  funext y
  idx_vars y
  pointwise [hlo_ix, rowWords_apply]
  word_cmp

/-- A conjunction of bits that all hold, begun at a bit that holds, holds. -/
theorem foldl_and_ones {α : Type} (l : List α) : l.foldl (fun r (_ : α) => IntOp.andi r 1#1) 1#1 = 1#1 := by
  induction l with
  | nil => rfl
  | cons _ _ ih => exact ih

/-- So the test holds of every row, all its numbers taken together. -/
theorem rowsInTable : Host.reduce IntOp.andi inTable (constantI S_ 1 1#1) reducesTo_S2048x1x1_S2048x1_d2 h_S_ = fun _ => 1#1 := by
  funext j
  rw [inTable_eq, Host.reduce_eq_foldl]
  exact foldl_and_ones _

/-! ## The lookup -/

/-- The lookup of the rows' own numbers finds each row. -/
theorem take_apply (e : Vec F S2048x1024 .f32) (i : Fin 2048) (d : Fin 1024) :
    Host.gather gather_S2048x1024_S2048x1x1_S2048x1x1024_2_0_n_n_0_2_11024 e rowWords (ix3 i 0 d) = e (ix2 i d) := by
  refine congrArg e (funext fun a => Fin.ext ?_)
  match a with
  | ⟨0, _⟩ =>
    show min (rowWords (ix3 i 0 0)).toInt.toNat (2048 - 1) + 0 + 0 = i.val
    rw [rowWords_apply]
    have hi : (BitVec.ofNat 32 i.val).toInt = i.val := by
      rw [BitVec.toInt_eq_toNat_of_lt (by rw [BitVec.toNat_ofNat]; omega), BitVec.toNat_ofNat]; omega
    show min (BitVec.ofNat 32 i.val).toInt.toNat (2048 - 1) + 0 + 0 = i.val
    rw [hi]
    omega
  | ⟨1, _⟩ =>
    show 0 + 0 + d.val = d.val
    omega

/-! ## The result -/

/-- THE REFERENCE'S VALUE: what its operations compute of `x` and the table is the sum of `x` and the table's rows. -/
theorem value_eq (x : Vec F S2048x4x1024 .f32) (e : Vec F S2048x1024 .f32) :
    addf x (broadcastInDim S2048x4x1024 ![0, 1, 2] bcast_S2048x1x1024_S2048x4x1024_0_1_2
      (select (broadcastInDim S2048x1x1024 ![0, 1] bcast_S2048x1_S2048x1x1024_0_1
          (Host.reduce IntOp.andi inTable (constantI S_ 1 1#1) reducesTo_S2048x1x1_S2048x1_d2 h_S_))
        (Host.gather gather_S2048x1024_S2048x1x1_S2048x1x1024_2_0_n_n_0_2_11024 e rowWords)
        (broadcastInDim S2048x1x1024 ![] bcast_S_S2048x1x1024 (constant S_ .f32 0x7FC00000#32))))
      = Cert.Kernel.Ring.addRows x e := by
  rw [rowsInTable]
  funext y
  idx_vars y
  unfold Cert.Kernel.Ring.addRows
  pointwise
  rw [take_apply]

/-- THE REFERENCE'S RUN: it ends with its result at that sum and both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = Cert.Kernel.Ring.addRows (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq _ _), (h c).2⟩) (Value.run m ρ)

end Cert.ReferenceIdeal.Take

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Run
public import proofs.«01_k».proof.Proof.Take
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at bit patterns leaves its arguments as launched and every semaphore counter at zero. -/
theorem kernel_frame : Cert.quiescent_Kernel := fun m g _ =>
  (θ_run Cert.Kernel.defs _ _).mono (fun _ h => ⟨fun c => (h.1 c).2, h.2⟩) (Cert.Kernel.Ring.run (F := Bits) m g)

/-- The kernel at extended reals is the same text, so it too leaves the sum in its result, its arguments as launched and
    every semaphore counter at zero. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v0)
          = Cert.Kernel.Ring.addRows (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  Cert.Kernel.Ring.run (F := Ideal) m g

/-- The kernel at extended reals leaves its arguments as launched and every semaphore counter at zero. -/
theorem ideal_frame : Cert.quiescent_KernelIdeal := fun m g _ =>
  (θ_run Cert.KernelIdeal.defs _ _).mono (fun _ h => ⟨fun c => (h.1 c).2, h.2⟩) (ideal_run m g)

/-- The reference leaves its arguments as launched; it has no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Take.run (F := Ideal) m g)

/-- The kernel and the reference, from equal arguments, leave equal results: the sum of `x` and the table's rows. -/
theorem algebraic : Cert.algebraic_KernelIdeal_ReferenceIdeal := fun m g m' g' _ hagree =>
  ⟨fun c => Cert.Kernel.Ring.addRows (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h => h.1) (ideal_run m g),
    (θ_run Cert.ReferenceIdeal.defs _ _).mono
      (fun _ h c => ⟨(h c).1.trans (congrArg₂ (Cert.Kernel.Ring.addRows (F := Ideal)) (hagree c).1 (hagree c).2), (h c).2⟩)
      (Cert.ReferenceIdeal.Take.run (F := Ideal) m' g')⟩

/-- All five claims: the three frames, the idealization's preservation, the kernel's value. -/
theorem claim : Cert.Claim := ⟨Cert.Kernel.Gen.facts, Cert.KernelIdeal.Gen.facts, Cert.ReferenceIdeal.Gen.facts,
  kernel_frame, ideal_frame, reference_frame, trivial, algebraic⟩

end Cert.Proof

end
